-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x2048 : Shape := ⟨2, ![2048, 2048]⟩
abbrev S256x2048 : Shape := ⟨2, ![256, 2048]⟩
abbrev S512x2048 : Shape := ⟨2, ![512, 2048]⟩
abbrev S2048x512 : Shape := ⟨2, ![2048, 512]⟩
abbrev S256x512 : Shape := ⟨2, ![256, 512]⟩

abbrev nBuf : Space → Nat
  | .hbm => 3
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S512x2048, .f32⟩
  | .local _ .vmem, ⟨9, _⟩ => ⟨S512x2048, .f32⟩
  | .local _ .vmem, ⟨10, _⟩ => ⟨S2048x512, .f32⟩
  | .local _ .vmem, ⟨11, _⟩ => ⟨S2048x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem8_1 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat]

def cc0_transform_4 (i : grid0.Coords) : Fin 2 → Nat :=
  let arg0 : BitVec 32 := BitVec.ofNat 32 (i 0).val
  let c4_i32 : BitVec 32 := 4#32
  let c0_i32 : BitVec 32 := 0#32
  let c0_i32_0 : BitVec 32 := 0#32
  ![c4_i32.toNat, c0_i32.toNat]

def cc0_transform_5 (i : grid0.Coords) : Fin 2 → Nat :=
  let arg0 : BitVec 32 := BitVec.ofNat 32 (i 0).val
  let c5_i32 : BitVec 32 := 5#32
  let c0_i32 : BitVec 32 := 0#32
  let c0_i32_0 : BitVec 32 := 0#32
  ![c5_i32.toNat, c0_i32.toNat]

def cc0_transform_6 (i : grid0.Coords) : Fin 2 → Nat :=
  let arg0 : BitVec 32 := BitVec.ofNat 32 (i 0).val
  let c6_i32 : BitVec 32 := 6#32
  let c0_i32 : BitVec 32 := 0#32
  let c0_i32_0 : BitVec 32 := 0#32
  ![c6_i32.toNat, c0_i32.toNat]

def cc0_transform_7 (i : grid0.Coords) : Fin 2 → Nat :=
  let arg0 : BitVec 32 := BitVec.ofNat 32 (i 0).val
  let c7_i32 : BitVec 32 := 7#32
  let c0_i32 : BitVec 32 := 0#32
  let c0_i32_0 : BitVec 32 := 0#32
  ![c7_i32.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Strip.lean ====
/-
  WHAT ONE STRIP OF THE KERNEL'S BODY COMPUTES (hand-written, untrusted).

  At a grid point the body holds 512 rows of the weight and all 2048 rows of `x`, the latter as eight windows of 256 rows.
  For each window it casts the 256 rows and the 512 rows to bf16, multiplies them on the matrix unit (contracting the
  second axis of both) into zeros, and stores the 256 × 512 product. Here: that product as one definition `strip`, to which
  each of the eight printed payloads unfolds, and its value over the extended reals at an index, the plain sum
  `∑ k, x[r, k] * w[c, k]` (casts between float formats are the identity there).
-/
module

public import proofs.«01_k».proof.Proof.Gen.KernelIdeal.Skeleton
public import Idealize.ShloMosaic.Lib.MatmulPlain
public import Idealize.ShloMosaic.Lib.ValueIdx

@[expose] public section

noncomputable section

namespace Cert.KernelIdeal.Product

open Cert.KernelIdeal Cert.KernelIdeal.Gen Idealize.ShloMosaic Idealize.ShloMosaic.ValueIdx

/-- The product of 256 rows `x` and 512 rows `w`, both cast to bf16 first, contracted along the second axis of both. -/
def strip (w : Vec Ideal S512x2048 .f32) (x : Vec Ideal S256x2048 .f32) : FVec Ideal S256x512 .f32 :=
  matmul dot_S256x2048_S512x2048_S256x512_1_1_0_0_n_n none (truncf .bf16 x bitsLt_bf16_f32) (truncf .bf16 w bitsLt_bf16_f32)
    (constant S256x512 .f32 0x00000000#32)

/-- Over the extended reals entry (r, c) of a strip is `∑ k, x[r, k] * w[c, k]`. -/
theorem strip_apply (w : Vec Ideal S512x2048 .f32) (x : Vec Ideal S256x2048 .f32) (r : Fin 256) (c : Fin 512) :
    strip w x (ix2 r c) = ∑ k : Fin 2048, x (ix2 r k) * w (ix2 c k) := by
  have h := Ideal.matmul_transposedRhs_apply (M := 256) (K := 2048) (N := 512) none (truncf .bf16 x bitsLt_bf16_f32)
    (truncf .bf16 w bitsLt_bf16_f32) (constant S256x512 .f32 0x00000000#32) r c
  refine (show strip w x (ix2 r c) = _ from h).trans ?_
  show Ideal.ofBits .f32 0x00000000#32 + _ = _
  rw [Ideal.ofBits_zero_f32, zero_add]
  rfl

end Cert.KernelIdeal.Product

end
-- ==== Proof.Blocks.lean ====
/-
  WHAT THE KERNEL'S RESULT ARRAY HOLDS (hand-written, untrusted): entry (r, c) ends at `∑ k, x[r, k] * weight[c, k]`.

  In steps: the windows' blocks as rows of the arguments (`x_rows`, `weight_rows`); the buffer that the body's eight stores leave,
  as one function (`stores_eq`, from any eight blocks that are the rows of one array); so what a grid point writes back is
  its block of columns of the product (`flushed_eq`); the four blocks of columns fill the array (`cover`), hence the run (`run`).
-/
module

public import proofs.«01_k».proof.Proof.Strip
public import proofs.«01_k».proof.Proof.Gen.KernelIdeal.Value
public import Idealize.ShloMosaic.Lib.Pipeline.Value
public import Idealize.ShloMosaic.Lib.Pipeline.ValueKit.Basic

@[expose] public section

set_option maxRecDepth 16384

noncomputable section

namespace Cert.KernelIdeal.Product

open Cert.KernelIdeal Cert.KernelIdeal.Gen Idealize.ShloMosaic Idealize.ShloMosaic.TcCoe Idealize.SL.Sem
open Idealize.ShloMosaic.ValueIdx
open Idealize.ShloMosaic.Pipeline (Dat Window)

/-- The product of `x` with the transpose of `w`, entry by entry: what kernel and reference both compute. -/
def prod (x w : S2048x2048.Idx → EReal) : S2048x2048.Idx → EReal :=
  fun i => ∑ k : Fin 2048, x (ix2 (i 0) k) * w (ix2 (i 1) k)

/-! ## The buffer after the body -/

/-- `b` holds rows `256 * n` to `256 * n + 255` of `x`. -/
def IsRows (n : Nat) (x : S2048x2048.Idx → EReal) (b : S256x2048.Idx → EReal) : Prop :=
  ∀ (r : Fin 256) (k : Fin 2048) (R : Fin 2048), (R : Nat) = n * 256 + r → b (ix2 r k) = x (ix2 R k)

/-- The 2048 × 512 product of all rows of `x` with 512 rows `w`: what the body leaves in the staging buffer. -/
def columns (x : S2048x2048.Idx → EReal) (w : S512x2048.Idx → EReal) : S2048x512.Idx → EReal :=
  fun y => ∑ k : Fin 2048, x (ix2 (y 0) k) * w (ix2 (y 1) k)

/-- A strip of rows `n` of `x`, at a local index, is `columns` at the place where the body stores it. -/
theorem strip_eq_columns {n : Nat} {x : S2048x2048.Idx → EReal} {w : S512x2048.Idx → EReal} {b : S256x2048.Idx → EReal}
    (h : IsRows n x b) (j : S256x512.Idx) (y : S2048x512.Idx) (h0 : (y 0 : Nat) = n * 256 + (j 0 : Nat)) (h1 : (y 1 : Nat) = j 1) :
    strip w b j = columns x w y := by
  obtain ⟨r, c, rfl⟩ : ∃ (r : Fin 256) (c : Fin 512), j = ix2 r c := ⟨j 0, j 1, eq_ix2 j⟩
  rw [strip_apply]
  refine Finset.sum_congr rfl fun k _ => ?_
  rw [h r k (y 0) h0, show (y 1 : Fin 512) = c from Fin.ext h1]

theorem zeros : (![0, 0] : Fin 2 → Nat) = fun _ => 0 := funext fun a => by fin_cases a <;> rfl

/-- THE BODY: where the eight blocks are the rows of one array `x`, its eight stores leave `columns x w`. -/
theorem stores_eq {x : S2048x2048.Idx → EReal} (w : Vec Ideal S512x2048 .f32) {b0 b1 b2 b3 b4 b5 b6 b7 : Vec Ideal S256x2048 .f32}
    (h0 : IsRows 0 x b0) (h1 : IsRows 1 x b1) (h2 : IsRows 2 x b2) (h3 : IsRows 3 x b3) (h4 : IsRows 4 x b4) (h5 : IsRows 5 x b5)
    (h6 : IsRows 6 x b6) (h7 : IsRows 7 x b7) : out0_9 b0 b1 b2 b3 b4 b5 b6 b7 w = columns x w := by
  funext y
  unfold out0_9 k0_pay11
  simp only [r0_0, r0_1]
  rw [View.ld_unit_zero zeros, View.ld_unit_zero zeros, View.ld_unit_zero zeros, View.ld_unit_zero zeros, View.ld_unit_zero zeros,
    View.ld_unit_zero zeros, View.ld_unit_zero zeros, View.ld_unit_zero zeros, View.ld_unit_zero zeros]
  refine View.canon_apply_of_pieces (Val := Elt Ideal) (e := .f32) (columns x w) _ ?_ y (cover0_9 _ _ _ _ _ _ _ _ y)
  simp only [List.forall_mem_cons, List.not_mem_nil, false_implies, implies_true, and_true]
  refine ⟨?_, ?_, ?_, ?_, ?_, ?_, ?_, ?_⟩ <;> intro j
  · exact strip_eq_columns h7 j _ (by show 1792 + 1 * (j 0 : Nat) = _; omega) (by show 0 + 1 * (j 1 : Nat) = _; omega)
  · exact strip_eq_columns h6 j _ (by show 1536 + 1 * (j 0 : Nat) = _; omega) (by show 0 + 1 * (j 1 : Nat) = _; omega)
  · exact strip_eq_columns h5 j _ (by show 1280 + 1 * (j 0 : Nat) = _; omega) (by show 0 + 1 * (j 1 : Nat) = _; omega)
  · exact strip_eq_columns h4 j _ (by show 1024 + 1 * (j 0 : Nat) = _; omega) (by show 0 + 1 * (j 1 : Nat) = _; omega)
  · exact strip_eq_columns h3 j _ (by show 768 + 1 * (j 0 : Nat) = _; omega) (by show 0 + 1 * (j 1 : Nat) = _; omega)
  · exact strip_eq_columns h2 j _ (by show 512 + 1 * (j 0 : Nat) = _; omega) (by show 0 + 1 * (j 1 : Nat) = _; omega)
  · exact strip_eq_columns h1 j _ (by show 256 + 1 * (j 0 : Nat) = _; omega) (by show 0 + 1 * (j 1 : Nat) = _; omega)
  · exact strip_eq_columns h0 j _ (by show 0 + 1 * (j 0 : Nat) = _; omega) (by show 0 + 1 * (j 1 : Nat) = _; omega)

/-! ## The blocks at a grid point -/

variable (m : (ℓ : Loc nD τ sig) → Buf (Elt Ideal) ℓ) (ρ : Dev nD → PrngReg)

/-- Device `c`'s argument `x`. -/
abbrev X (c : Dev nD) : S2048x2048.Idx → EReal := m ((c : Thread nD τ).loc main_arg0)
/-- Device `c`'s argument `weight`. -/
abbrev Wt (c : Dev nD) : S2048x2048.Idx → EReal := m ((c : Thread nD τ).loc main_arg1)

/-- Point `t` takes block (t, 0) of the weight, -/
theorem index_w : ∀ t : Fin grid0.N, win0_8.index t = ![t.val, 0] := by decide +kernel
/-- and writes block (0, t) of the result. -/
theorem index_o : ∀ t : Fin grid0.N, win0_9.index t = ![0, t.val] := by decide +kernel

/-- A block that reads `x` at rows `256 * n` on and at all columns holds rows `n` (the numbers as a window's rectangle spells
    them: block index times block size plus one times the coordinate). -/
theorem isRows_of_place {n : Nat} {x : S2048x2048.Idx → EReal} {b : S256x2048.Idx → EReal} (place : S256x2048.Idx → S2048x2048.Idx)
    (hb : ∀ j, b j = x (place j)) (h0 : ∀ j, (place j 0 : Nat) = n * 256 + 1 * (j 0 : Nat))
    (h1 : ∀ j, (place j 1 : Nat) = 0 * 2048 + 1 * (j 1 : Nat)) : IsRows n x b := by
  intro r k R hR
  rw [hb]
  refine congrArg x (Shape.idx_ext₂ ((h0 _).trans ?_) ((h1 _).trans ?_))
  · show n * 256 + 1 * (r : Nat) = R; omega
  · show 0 * 2048 + 1 * (k : Nat) = k; omega

/-- The eight windows on `x` hold its rows, 256 each. -/
theorem x_rows (c : Dev nD) (t : Fin cfg0.N) :
    IsRows 0 (X m c) (iblk m c 0 t) ∧ IsRows 1 (X m c) (iblk m c 1 t) ∧ IsRows 2 (X m c) (iblk m c 2 t) ∧ IsRows 3 (X m c) (iblk m c 3 t)
      ∧ IsRows 4 (X m c) (iblk m c 4 t) ∧ IsRows 5 (X m c) (iblk m c 5 t) ∧ IsRows 6 (X m c) (iblk m c 6 t) ∧ IsRows 7 (X m c) (iblk m c 7 t) :=
  ⟨isRows_of_place (win0_0.rect t).emb (fun _ => rfl) (fun _ => rfl) (fun _ => rfl),
    isRows_of_place (win0_1.rect t).emb (fun _ => rfl) (fun _ => rfl) (fun _ => rfl),
    isRows_of_place (win0_2.rect t).emb (fun _ => rfl) (fun _ => rfl) (fun _ => rfl),
    isRows_of_place (win0_3.rect t).emb (fun _ => rfl) (fun _ => rfl) (fun _ => rfl),
    isRows_of_place (win0_4.rect t).emb (fun _ => rfl) (fun _ => rfl) (fun _ => rfl),
    isRows_of_place (win0_5.rect t).emb (fun _ => rfl) (fun _ => rfl) (fun _ => rfl),
    isRows_of_place (win0_6.rect t).emb (fun _ => rfl) (fun _ => rfl) (fun _ => rfl),
    isRows_of_place (win0_7.rect t).emb (fun _ => rfl) (fun _ => rfl) (fun _ => rfl)⟩

/-- The ninth holds rows `512 * t` to `512 * t + 511` of the weight. -/
theorem weight_rows (c : Dev nD) (t : Fin cfg0.N) (r : Fin 512) (k : Fin 2048) (R : Fin 2048) (hR : (R : Nat) = t.val * 512 + r) :
    iblk m c 8 t (ix2 r k) = Wt m c (ix2 R k) := by
  show Wt m c ((win0_8.rect t).emb (ix2 r k)) = _
  have e := index_w t
  refine congrArg (Wt m c) (Shape.idx_ext₂ ?_ ?_)
  · show win0_8.index t 0 * 512 + 1 * (r : Nat) = R
    rw [e]; show t.val * 512 + 1 * (r : Nat) = R; omega
  · show win0_8.index t 1 * 2048 + 1 * (k : Nat) = k
    rw [e]; show 0 * 2048 + 1 * (k : Nat) = k; omega

/-! ## The result array -/

/-- What point `t` writes back is block `t` of the columns of the product. -/
theorem flushed_eq (c : Dev nD) (t : Fin cfg0.N) :
    (dats m 0 c).flushed 9 t = ((cfg0.win 9).blk t).view.read (Elt Ideal) (prod (X m c) (Wt m c)) := by
  obtain ⟨h0, h1, h2, h3, h4, h5, h6, h7⟩ := x_rows m c t
  rw [Value.flushed9, stores_eq (iblk m c 8 t) h0 h1 h2 h3 h4 h5 h6 h7]
  funext j
  show columns (X m c) (iblk m c 8 t) (win0_9.xinj (grid0.coords t) j) = prod (X m c) (Wt m c) ((win0_9.rect t).emb j)
  have e := index_o t
  have e0 : ((win0_9.rect t).emb j 0 : Nat) = j 0 := by
    show win0_9.index t 0 * 2048 + 1 * (j 0 : Nat) = _
    rw [e]; show 0 * 2048 + 1 * (j 0 : Nat) = _; omega
  have e1 : ((win0_9.rect t).emb j 1 : Nat) = t.val * 512 + (j 1 : Nat) := by
    show win0_9.index t 1 * 512 + 1 * (j 1 : Nat) = _
    rw [e]; show t.val * 512 + 1 * (j 1 : Nat) = _; omega
  refine Finset.sum_congr rfl fun k _ => ?_
  rw [weight_rows m c t _ k ((win0_9.rect t).emb j 1) e1]
  exact congrArg (fun q : Fin 2048 => X m c (ix2 q k) * Wt m c (ix2 ((win0_9.rect t).emb j 1) k)) (Fin.ext e0.symm)

/-- The four blocks of 512 columns fill the result array. -/
theorem cover (i : S2048x2048.Idx) : ∃ t : Fin cfg0.N, (cfg0.win 9).flush t = true ∧ i ∈ ((cfg0.win 9).blk t).view.set := by
  have h0 : (i 0 : Nat) < 2048 := (i 0).isLt
  have h1 : (i 1 : Nat) < 2048 := (i 1).isLt
  have hN : grid0.N = 4 := N_0
  have ht : (i 1 : Nat) / 512 < grid0.N := by omega
  refine ⟨⟨(i 1 : Nat) / 512, ht⟩, flush0_9 _, ?_⟩
  show i ∈ ((View.whole main_v0).slice (win0_9.rect ⟨(i 1 : Nat) / 512, ht⟩)).set
  rw [View.set_slice_whole, Rect.mem_set_unit]
  have e := index_o ⟨(i 1 : Nat) / 512, ht⟩
  intro a
  match a with
  | ⟨0, _⟩ =>
    show win0_9.index ⟨(i 1 : Nat) / 512, ht⟩ 0 * 2048 ≤ (i 0 : Nat) ∧ (i 0 : Nat) < win0_9.index ⟨(i 1 : Nat) / 512, ht⟩ 0 * 2048 + 2048
    rw [e]; show 0 * 2048 ≤ (i 0 : Nat) ∧ (i 0 : Nat) < 0 * 2048 + 2048; omega
  | ⟨1, _⟩ =>
    show win0_9.index ⟨(i 1 : Nat) / 512, ht⟩ 1 * 512 ≤ (i 1 : Nat) ∧ (i 1 : Nat) < win0_9.index ⟨(i 1 : Nat) / 512, ht⟩ 1 * 512 + 512
    rw [e]; show (i 1 : Nat) / 512 * 512 ≤ (i 1 : Nat) ∧ (i 1 : Nat) < (i 1 : Nat) / 512 * 512 + 512; omega

/-- So the result array ends at the product of the arguments. -/
theorem final_eq (c : Dev nD) : (dats m 0 c).arrAt 9 cfg0.N = prod (X m c) (Wt m c) :=
  (dats m 0 c).arrAt_eq_of_cover 9 (prod (X m c) (Wt m c)) (fun t _ => flushed_eq m c t) cover

/-- THE KERNEL'S RUN over the extended reals: its result ends at the product of the arguments, which end unchanged. -/
theorem run : θ_run defs (onTc (τ := τ) (main (F := Ideal))) ⟨m, fun _ => 0, ρ⟩ fun r => ∀ c : Dev nD,
      r.2.mem ((c : Thread nD τ).loc main_v0) = prod (X m c) (Wt m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_eq m c), (h c).2⟩) (Value.run_blocks (F := Ideal) m ρ)

end Cert.KernelIdeal.Product

end
-- ==== Proof.Plain.lean ====
/-
  WHAT THE REFERENCE COMPUTES (hand-written, untrusted): its one host product with the transposed weight, read at entry (r, c)
  over the extended reals, is `∑ k, x[r, k] * weight[c, k]`.
-/
module

public import proofs.«01_k».proof.Proof.Gen.ReferenceIdeal.Run
public import Idealize.ShloMosaic.Lib.StackMember
public import Idealize.ShloMosaic.Lib.Pipeline.Value
public import Idealize.ShloMosaic.Lib.ValueIdx

@[expose] public section

noncomputable section

namespace Cert.ReferenceIdeal.Product

open Cert.ReferenceIdeal Cert.ReferenceIdeal.Gen Idealize.ShloMosaic Idealize.ShloMosaic.ValueIdx

/-- Entry `i` of `x @ weight.T`. -/
theorem dot_transpose_apply (x w : FVec Ideal S2048x2048 .f32) (i : S2048x2048.Idx) :
    Host.dotGeneral dot_S2048x2048_S2048x2048_S2048x2048_1_0_0_1_n_n none x
        (transpose S2048x2048 [1, 0] w transposes_S2048x2048_S2048x2048_1_0) i
      = ∑ k : Fin 2048, x (ix2 (i 0) k) * w (ix2 (i 1) k) := by
  obtain ⟨r, c, rfl⟩ : ∃ r c : Fin 2048, i = ix2 r c := ⟨i 0, i 1, eq_ix2 i⟩
  refine (StackMember.dotGeneral_plain_apply (m := 2048) (k := 2048) (n := 2048) none x _ r c).trans ?_
  refine Finset.sum_congr rfl fun k _ => congrArg (x (ix2 r k) * ·) ?_
  exact transpose_apply [1, 0] w transposes_S2048x2048_S2048x2048_1_0 (ix2 k c) (ix2 c k)
    fun b => match b with | ⟨0, _⟩ => rfl | ⟨1, _⟩ => rfl

end Cert.ReferenceIdeal.Product

end
-- ==== Proof.lean ====
/-
  THE CERTIFICATE (hand-written, untrusted): the tiled kernel and the plain product run and leave everything as they should
  (the generated frames), and over the extended reals both end at `∑ k, x[r, k] * weight[c, k]` (Proof/Blocks.lean for the
  kernel, Proof/Plain.lean for the reference).
-/
module

public import proofs.«01_k».proof.Defs
public import proofs.«01_k».proof.Proof.Gen.Kernel.Frame
public import proofs.«01_k».proof.Proof.Blocks
public import proofs.«01_k».proof.Proof.Plain
public import Idealize.ShloMosaic.Lib.Quiescent

@[expose] public section

noncomputable section

namespace Cert.Proof

open Idealize.ShloMosaic Idealize.ShloMosaic.TcCoe Idealize.SL.Sem

/-- The reference terminates, leaves its arguments unchanged, and has no semaphore. -/
theorem frame_reference : Cert.quiescent_ReferenceIdeal (hReferenceIdeal := Cert.ReferenceIdeal.Gen.facts) := fun m ρ _ =>
  (θ_run Cert.ReferenceIdeal.defs _ _).mono (fun r h => ⟨fun c => ⟨(h c).2.1, (h c).2.2⟩,
      Idealize.ShloMosaic.sem_eq_zero_of_no_sems (by decide) r.2⟩)
    (Cert.ReferenceIdeal.Value.run (F := Ideal) m ρ)

/-- From equal arguments the kernel's result and the reference's are the same product, entry by entry. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.KernelIdeal.Product.prod (Cert.KernelIdeal.Product.X m c) (Cert.KernelIdeal.Product.Wt m c),
    Cert.KernelIdeal.Product.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact funext fun i => Cert.ReferenceIdeal.Product.dot_transpose_apply _ _ i

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
